-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_one_graph [hPre_one_graph : Cert.Pre_one_graph.Facts] (m : (ℓ : Loc Cert.KernelIdeal.nD Cert.KernelIdeal.τ Cert.KernelIdeal.sig) → Buf (Elt Ideal) ℓ) : Prop :=
  ∀ c : Dev Cert.KernelIdeal.nD,
    (Cert.Pre_one_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_one_graph [hPre_one_graph : Cert.Pre_one_graph.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_one_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_one_graph [hKernelIdeal : Cert.KernelIdeal.Facts] [hPre_one_graph : Cert.Pre_one_graph.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_one_graph m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_one_graph [hReferenceIdeal : Cert.ReferenceIdeal.Facts] [hPre_one_graph : Cert.Pre_one_graph.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_one_graph m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_one_graph [hKernelIdeal : Cert.KernelIdeal.Facts] [hReferenceIdeal : Cert.ReferenceIdeal.Facts] [hPre_one_graph : Cert.Pre_one_graph.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_one_graph m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v56)) (v1 : (c : Dev Cert.KernelIdeal.nD) → Buf (Elt Ideal) ((c.tc : Thread Cert.KernelIdeal.nD Cert.KernelIdeal.τ).loc Cert.KernelIdeal.main_v57)) (v2 : (c : Dev Cert.KernelIdeal.nD) → Buf (Elt Ideal) ((c.tc : Thread Cert.KernelIdeal.nD Cert.KernelIdeal.τ).loc Cert.KernelIdeal.main_indices)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_v57) = v1 c
          ∧ r.2.mem ((c.tc : Thread Cert.KernelIdeal.nD Cert.KernelIdeal.τ).loc Cert.KernelIdeal.main_indices) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_indices) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_one_graph : Cert.Pre_one_graph.Facts),
    quiescent_Kernel (hKernel := hKernel)
    ∧ quiescent_KernelIdeal (hKernelIdeal := hKernelIdeal)
    ∧ quiescent_KernelIdeal_pre_one_graph (hKernelIdeal := hKernelIdeal) (hPre_one_graph := hPre_one_graph)
    ∧ quiescent_ReferenceIdeal (hReferenceIdeal := hReferenceIdeal)
    ∧ quiescent_ReferenceIdeal_pre_one_graph (hReferenceIdeal := hReferenceIdeal) (hPre_one_graph := hPre_one_graph)
    ∧ preserves_Kernel_KernelIdeal
    ∧ algebraic_KernelIdeal_ReferenceIdeal_pre_one_graph (hKernelIdeal := hKernelIdeal) (hReferenceIdeal := hReferenceIdeal) (hPre_one_graph := hPre_one_graph)
-- ==== Pre_one_graph.lean ====
abbrev S10000x128 : Shape := ⟨2, ![10000, 128]⟩
abbrev S2x320000 : Shape := ⟨2, ![2, 320000]⟩
abbrev S10000 : Shape := ⟨1, ![10000]⟩
abbrev S128x1 : Shape := ⟨2, ![128, 1]⟩
abbrev S1 : Shape := ⟨1, ![1]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S10000 : S_.BroadcastsInDim S10000 (![] : Fin 0 → Fin S10000.rank)

variable [Facts]

def fn {F : FTy → Type} [FloatOps F] (main_arg0 : FVec F S10000x128 .f32) (main_arg1 : IVec S2x320000 32) (main_arg2 : IVec S10000 32) (main_arg3 : FVec F S128x1 .f32) (main_arg4 : FVec F S1 .f32) (main_arg5 : FVec F S128x1 .f32) (main_arg6 : FVec F S128x256 .f32) (main_arg7 : FVec F S256 .f32) (main_arg8 : FVec F S256x128 .f32) (main_arg9 : FVec F S128 .f32) (main_arg10 : FVec F S128x10 .f32) (main_arg11 : FVec F S10 .f32) (main_arg12 : FVec F S128x256 .f32) (main_arg13 : FVec F S256 .f32) (main_arg14 : FVec F S256x128 .f32) (main_arg15 : FVec F S128 .f32) (main_arg16 : FVec F S128x1 .f32) (main_arg17 : FVec F S1 .f32) : IVec S10000 1 :=
  let main_c : IVec S_ 32 := constantI S_ 32 0#32
  let main_v0 : IVec S10000 32 := broadcastInDim S10000 ![] bcast_S_S10000 main_c
  let main_v1 : IVec S10000 1 := cmpi .eq main_arg2 main_v0
  main_v1
-- ==== Kernel.lean ====
abbrev S10000x128 : Shape := ⟨2, ![10000, 128]⟩
abbrev S2x320000 : Shape := ⟨2, ![2, 320000]⟩
abbrev S10000 : Shape := ⟨1, ![10000]⟩
abbrev S128x1 : Shape := ⟨2, ![128, 1]⟩
abbrev S1 : Shape := ⟨1, ![1]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x10 : Shape := ⟨2, ![128, 10]⟩
abbrev S10 : Shape := ⟨1, ![10]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x128 : Shape := ⟨2, ![320000, 128]⟩
abbrev S10000x1 : Shape := ⟨2, ![10000, 1]⟩
abbrev S1x1 : Shape := ⟨2, ![1, 1]⟩
abbrev S5000 : Shape := ⟨1, ![5000]⟩
abbrev S120 : Shape := ⟨1, ![120]⟩
abbrev S5120 : Shape := ⟨1, ![5120]⟩
abbrev S5120x1 : Shape := ⟨2, ![5120, 1]⟩
abbrev S5000x1 : Shape := ⟨2, ![5000, 1]⟩
abbrev S5000x128 : Shape := ⟨2, ![5000, 128]⟩
abbrev S120x128 : Shape := ⟨2, ![120, 128]⟩
abbrev S5120x128 : Shape := ⟨2, ![5120, 128]⟩
abbrev S128x128 : Shape := ⟨2, ![128, 128]⟩
abbrev S1x128 : Shape := ⟨2, ![1, 128]⟩
abbrev S2 : Shape := ⟨1, ![2]⟩
abbrev S1x256 : Shape := ⟨2, ![1, 256]⟩
abbrev S8x128 : Shape := ⟨2, ![8, 128]⟩
abbrev S5120x256 : Shape := ⟨2, ![5120, 256]⟩
abbrev S8x256 : Shape := ⟨2, ![8, 256]⟩
abbrev S1x10 : Shape := ⟨2, ![1, 10]⟩

abbrev nBuf : Space → Nat
  | .hbm => 96
  | .vmem => 16
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S10000, .i32⟩
  | .hbm, ⟨3, _⟩ => ⟨S128x1, .f32⟩
  | .hbm, ⟨4, _⟩ => ⟨S1, .f32⟩
  | .hbm, ⟨5, _⟩ => ⟨S128x1, .f32⟩
  | .hbm, ⟨6, _⟩ => ⟨S128x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S128x10, .f32⟩
  | .hbm, ⟨11, _⟩ => ⟨S10, .f32⟩
  | .hbm, ⟨12, _⟩ => ⟨S128x256, .f32⟩
  | .hbm, ⟨13, _⟩ => ⟨S256, .f32⟩
  | .hbm, ⟨14, _⟩ => ⟨S256x128, .f32⟩
  | .hbm, ⟨15, _⟩ => ⟨S128, .f32⟩
  | .hbm, ⟨16, _⟩ => ⟨S128x1, .f32⟩
  | .hbm, ⟨17, _⟩ => ⟨S1, .f32⟩
  | .hbm, ⟨18, _⟩ => ⟨S1x320000, .i32⟩
  | .hbm, ⟨19, _⟩ => ⟨S320000, .i32⟩
  | .hbm, ⟨20, _⟩ => ⟨S1x320000, .i32⟩
  | .hbm, ⟨21, _⟩ => ⟨S320000, .i32⟩
  | .hbm, ⟨22, _⟩ => ⟨S_, .i32⟩
  | .hbm, ⟨23, _⟩ => ⟨S320000, .i32⟩
  | .hbm, ⟨24, _⟩ => ⟨S320000, .i1⟩
  | .hbm, ⟨25, _⟩ => ⟨S_, .i32⟩
  | .hbm, ⟨26, _⟩ => ⟨S320000, .i32⟩
  | .hbm, ⟨27, _⟩ => ⟨S320000, .i32⟩
  | .hbm, ⟨28, _⟩ => ⟨S320000, .i32⟩
  | .hbm, ⟨29, _⟩ => ⟨S320000x1, .i32⟩
  | .hbm, ⟨30, _⟩ => ⟨S320000x128, .f32⟩
  | .hbm, ⟨31, _⟩ => ⟨S_, .f32⟩
  | .hbm, ⟨32, _⟩ => ⟨S10000x128, .f32⟩
  | .hbm, ⟨33, _⟩ => ⟨S320000x1, .i32⟩
  | .hbm, ⟨34, _⟩ => ⟨S10000x128, .f32⟩
  | .hbm, ⟨35, _⟩ => ⟨S10000x1, .f32⟩
  | .hbm, ⟨36, _⟩ => ⟨S1x1, .f32⟩
  | .hbm, ⟨37, _⟩ => ⟨S10000x1, .f32⟩
  | .hbm, ⟨38, _⟩ => ⟨S10000x1, .f32⟩
  | .hbm, ⟨39, _⟩ => ⟨S10000x1, .f32⟩
  | .hbm, ⟨40, _⟩ => ⟨S10000x1, .f32⟩
  | .hbm, ⟨41, _⟩ => ⟨S10000x1, .f32⟩
  | .hbm, ⟨42, _⟩ => ⟨S10000, .f32⟩
  | .hbm, ⟨43, _⟩ => ⟨S5000, .f32⟩
  | .hbm, ⟨44, _⟩ => ⟨S5000, .i32⟩
  | .hbm, ⟨45, _⟩ => ⟨S_, .f32⟩
  | .hbm, ⟨46, _⟩ => ⟨S120, .f32⟩
  | .hbm, ⟨47, _⟩ => ⟨S5120, .f32⟩
  | .hbm, ⟨48, _⟩ => ⟨S5120x1, .f32⟩
  | .hbm, ⟨49, _⟩ => ⟨S_, .i32⟩
  | .hbm, ⟨50, _⟩ => ⟨S5000, .i32⟩
  | .hbm, ⟨51, _⟩ => ⟨S5000, .i1⟩
  | .hbm, ⟨52, _⟩ => ⟨S_, .i32⟩
  | .hbm, ⟨53, _⟩ => ⟨S5000, .i32⟩
  | .hbm, ⟨54, _⟩ => ⟨S5000, .i32⟩
  | .hbm, ⟨55, _⟩ => ⟨S5000, .i32⟩
  | .hbm, ⟨56, _⟩ => ⟨S5000x1, .i32⟩
  | .hbm, ⟨57, _⟩ => ⟨S5000x128, .f32⟩
  | .hbm, ⟨58, _⟩ => ⟨S_, .f32⟩
  | .hbm, ⟨59, _⟩ => ⟨S120x128, .f32⟩
  | .hbm, ⟨60, _⟩ => ⟨S5120x128, .f32⟩
  | .hbm, ⟨61, _⟩ => ⟨S_, .f32⟩
  | .hbm, ⟨62, _⟩ => ⟨S128x128, .f32⟩
  | .hbm, ⟨63, _⟩ => ⟨S_, .i32⟩
  | .hbm, ⟨64, _⟩ => ⟨S1, .i32⟩
  | .hbm, ⟨65, _⟩ => ⟨S128x128, .f32⟩
  | .hbm, ⟨66, _⟩ => ⟨S_, .f32⟩
  | .hbm, ⟨67, _⟩ => ⟨S1x128, .f32⟩
  | .hbm, ⟨68, _⟩ => ⟨S_, .f32⟩
  | .hbm, ⟨69, _⟩ => ⟨S_, .i32⟩
  | .hbm, ⟨70, _⟩ => ⟨S1, .i32⟩
  | .hbm, ⟨71, _⟩ => ⟨S_, .i32⟩
  | .hbm, ⟨72, _⟩ => ⟨S1, .i32⟩
  | .hbm, ⟨73, _⟩ => ⟨S2, .i32⟩
  | .hbm, ⟨74, _⟩ => ⟨S1x128, .f32⟩
  | .hbm, ⟨75, _⟩ => ⟨S_, .f32⟩
  | .hbm, ⟨76, _⟩ => ⟨S128x128, .f32⟩
  | .hbm, ⟨77, _⟩ => ⟨S_, .i32⟩
  | .hbm, ⟨78, _⟩ => ⟨S1, .i32⟩
  | .hbm, ⟨79, _⟩ => ⟨S128x128, .f32⟩
  | .hbm, ⟨80, _⟩ => ⟨S_, .f32⟩
  | .hbm, ⟨81, _⟩ => ⟨S1x128, .f32⟩
  | .hbm, ⟨82, _⟩ => ⟨S_, .i32⟩
  | .hbm, ⟨83, _⟩ => ⟨S1, .i32⟩
  | .hbm, ⟨84, _⟩ => ⟨S_, .i32⟩
  | .hbm, ⟨85, _⟩ => ⟨S1, .i32⟩
  | .hbm, ⟨86, _⟩ => ⟨S2, .i32⟩
  | .hbm, ⟨87, _⟩ => ⟨S1x128, .f32⟩
  | .hbm, ⟨88, _⟩ => ⟨S1x256, .f32⟩
  | .hbm, ⟨89, _⟩ => ⟨S1x128, .f32⟩
  | .hbm, ⟨90, _⟩ => ⟨S1x256, .f32⟩
  | .hbm, ⟨91, _⟩ => ⟨S1x128, .f32⟩
  | .hbm, ⟨92, _⟩ => ⟨S5120x128, .f32⟩
  | .hbm, ⟨93, _⟩ => ⟨S8x128, .f32⟩
  | .hbm, ⟨94, _⟩ => ⟨S1x10, .f32⟩
  | .hbm, ⟨95, _⟩ => ⟨S5000x1, .f32⟩
  | .local _ .vmem, ⟨0, _⟩ => ⟨S5120x128, .f32⟩
  | .local _ .vmem, ⟨1, _⟩ => ⟨S5120x1, .f32⟩
  | .local _ .vmem, ⟨2, _⟩ => ⟨S128x256, .f32⟩
  | .local _ .vmem, ⟨3, _⟩ => ⟨S1x256, .f32⟩
  | .local _ .vmem, ⟨4, _⟩ => ⟨S256x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x256, .f32⟩
  | .local _ .vmem, ⟨9, _⟩ => ⟨S1x256, .f32⟩
  | .local _ .vmem, ⟨10, _⟩ => ⟨S256x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S5120x128, .f32⟩
  | .local _ .vmem, ⟨15, _⟩ => ⟨S8x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_values : Ref sig .tc := ⟨.hbm, 43, rfl⟩
abbrev main_indices : Ref sig .tc := ⟨.hbm, 44, rfl⟩
abbrev main_cst_1 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_c_2 : Ref sig .tc := ⟨.hbm, 49, rfl⟩
abbrev main_v25 : Ref sig .tc := ⟨.hbm, 50, rfl⟩
abbrev main_v26 : Ref sig .tc := ⟨.hbm, 51, rfl⟩
abbrev main_c_3 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_4 : Ref sig .tc := ⟨.hbm, 58, rfl⟩
abbrev main_v32 : Ref sig .tc := ⟨.hbm, 59, rfl⟩
abbrev main_v33 : Ref sig .tc := ⟨.hbm, 60, rfl⟩
abbrev main_cst_5 : Ref sig .tc := ⟨.hbm, 61, rfl⟩
abbrev main_v34 : Ref sig .tc := ⟨.hbm, 62, rfl⟩
abbrev main_c_6 : Ref sig .tc := ⟨.hbm, 63, rfl⟩
abbrev main_v35 : Ref sig .tc := ⟨.hbm, 64, rfl⟩
abbrev main_v36 : Ref sig .tc := ⟨.hbm, 65, rfl⟩
abbrev main_cst_7 : Ref sig .tc := ⟨.hbm, 66, rfl⟩
abbrev main_v37 : Ref sig .tc := ⟨.hbm, 67, rfl⟩
abbrev main_v38 : Ref sig .tc := ⟨.hbm, 68, rfl⟩
abbrev main_c_8 : Ref sig .tc := ⟨.hbm, 69, rfl⟩
abbrev main_v39 : Ref sig .tc := ⟨.hbm, 70, rfl⟩
abbrev main_c_9 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_10 : Ref sig .tc := ⟨.hbm, 75, rfl⟩
abbrev main_v43 : Ref sig .tc := ⟨.hbm, 76, rfl⟩
abbrev main_c_11 : Ref sig .tc := ⟨.hbm, 77, rfl⟩
abbrev main_v44 : Ref sig .tc := ⟨.hbm, 78, rfl⟩
abbrev main_v45 : Ref sig .tc := ⟨.hbm, 79, rfl⟩
abbrev main_cst_12 : Ref sig .tc := ⟨.hbm, 80, rfl⟩
abbrev main_v46 : Ref sig .tc := ⟨.hbm, 81, rfl⟩
abbrev main_c_13 : Ref sig .tc := ⟨.hbm, 82, rfl⟩
abbrev main_v47 : Ref sig .tc := ⟨.hbm, 83, rfl⟩
abbrev main_c_14 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55_0 : Ref sig .tc := ⟨.hbm, 92, rfl⟩
abbrev main_v55_1 : Ref sig .tc := ⟨.hbm, 93, rfl⟩
abbrev main_v56 : Ref sig .tc := ⟨.hbm, 94, rfl⟩
abbrev main_v57 : Ref sig .tc := ⟨.hbm, 95, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S5120x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S5120x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== ReferenceIdeal.lean ====
abbrev S10000x128 : Shape := ⟨2, ![10000, 128]⟩
abbrev S2x320000 : Shape := ⟨2, ![2, 320000]⟩
abbrev S10000 : Shape := ⟨1, ![10000]⟩
abbrev S128x1 : Shape := ⟨2, ![128, 1]⟩
abbrev S1 : Shape := ⟨1, ![1]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x10 : Shape := ⟨2, ![128, 10]⟩
abbrev S10 : Shape := ⟨1, ![10]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x128 : Shape := ⟨2, ![320000, 128]⟩
abbrev S10000x1 : Shape := ⟨2, ![10000, 1]⟩
abbrev S1x1 : Shape := ⟨2, ![1, 1]⟩
abbrev S5000 : Shape := ⟨1, ![5000]⟩
abbrev S5000x1 : Shape := ⟨2, ![5000, 1]⟩
abbrev S5000x128 : Shape := ⟨2, ![5000, 128]⟩
abbrev S1x128 : Shape := ⟨2, ![1, 128]⟩
abbrev S1x256 : Shape := ⟨2, ![1, 256]⟩
abbrev S1x10 : Shape := ⟨2, ![1, 10]⟩
abbrev S5000x256 : Shape := ⟨2, ![5000, 256]⟩

abbrev nBuf : Space → Nat
  | .hbm => 112
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S10000, .i32⟩
  | .hbm, ⟨3, _⟩ => ⟨S128x1, .f32⟩
  | .hbm, ⟨4, _⟩ => ⟨S1, .f32⟩
  | .hbm, ⟨5, _⟩ => ⟨S128x1, .f32⟩
  | .hbm, ⟨6, _⟩ => ⟨S128x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S128x10, .f32⟩
  | .hbm, ⟨11, _⟩ => ⟨S10, .f32⟩
  | .hbm, ⟨12, _⟩ => ⟨S128x256, .f32⟩
  | .hbm, ⟨13, _⟩ => ⟨S256, .f32⟩
  | .hbm, ⟨14, _⟩ => ⟨S256x128, .f32⟩
  | .hbm, ⟨15, _⟩ => ⟨S128, .f32⟩
  | .hbm, ⟨16, _⟩ => ⟨S128x1, .f32⟩
  | .hbm, ⟨17, _⟩ => ⟨S1, .f32⟩
  | .hbm, ⟨18, _⟩ => ⟨S1x320000, .i32⟩
  | .hbm, ⟨19, _⟩ => ⟨S320000, .i32⟩
  | .hbm, ⟨20, _⟩ => ⟨S1x320000, .i32⟩
  | .hbm, ⟨21, _⟩ => ⟨S320000, .i32⟩
  | .hbm, ⟨22, _⟩ => ⟨S_, .i32⟩
  | .hbm, ⟨23, _⟩ => ⟨S320000, .i32⟩
  | .hbm, ⟨24, _⟩ => ⟨S320000, .i1⟩
  | .hbm, ⟨25, _⟩ => ⟨S_, .i32⟩
  | .hbm, ⟨26, _⟩ => ⟨S320000, .i32⟩
  | .hbm, ⟨27, _⟩ => ⟨S320000, .i32⟩
  | .hbm, ⟨28, _⟩ => ⟨S320000, .i32⟩
  | .hbm, ⟨29, _⟩ => ⟨S320000x1, .i32⟩
  | .hbm, ⟨30, _⟩ => ⟨S320000x128, .f32⟩
  | .hbm, ⟨31, _⟩ => ⟨S_, .f32⟩
  | .hbm, ⟨32, _⟩ => ⟨S10000x128, .f32⟩
  | .hbm, ⟨33, _⟩ => ⟨S320000x1, .i32⟩
  | .hbm, ⟨34, _⟩ => ⟨S10000x128, .f32⟩
  | .hbm, ⟨35, _⟩ => ⟨S10000x1, .f32⟩
  | .hbm, ⟨36, _⟩ => ⟨S1x1, .f32⟩
  | .hbm, ⟨37, _⟩ => ⟨S10000x1, .f32⟩
  | .hbm, ⟨38, _⟩ => ⟨S10000x1, .f32⟩
  | .hbm, ⟨39, _⟩ => ⟨S10000x1, .f32⟩
  | .hbm, ⟨40, _⟩ => ⟨S10000x1, .f32⟩
  | .hbm, ⟨41, _⟩ => ⟨S10000x1, .f32⟩
  | .hbm, ⟨42, _⟩ => ⟨S10000, .f32⟩
  | .hbm, ⟨43, _⟩ => ⟨S5000, .f32⟩
  | .hbm, ⟨44, _⟩ => ⟨S5000, .i32⟩
  | .hbm, ⟨45, _⟩ => ⟨S_, .i32⟩
  | .hbm, ⟨46, _⟩ => ⟨S5000, .i32⟩
  | .hbm, ⟨47, _⟩ => ⟨S5000, .i1⟩
  | .hbm, ⟨48, _⟩ => ⟨S_, .i32⟩
  | .hbm, ⟨49, _⟩ => ⟨S5000, .i32⟩
  | .hbm, ⟨50, _⟩ => ⟨S5000, .i32⟩
  | .hbm, ⟨51, _⟩ => ⟨S5000, .i32⟩
  | .hbm, ⟨52, _⟩ => ⟨S5000x1, .i32⟩
  | .hbm, ⟨53, _⟩ => ⟨S5000x128, .f32⟩
  | .hbm, ⟨54, _⟩ => ⟨S5000x1, .f32⟩
  | .hbm, ⟨55, _⟩ => ⟨S5000x128, .f32⟩
  | .hbm, ⟨56, _⟩ => ⟨S5000x128, .f32⟩
  | .hbm, ⟨57, _⟩ => ⟨S_, .i32⟩
  | .hbm, ⟨58, _⟩ => ⟨S5000, .i32⟩
  | .hbm, ⟨59, _⟩ => ⟨S5000, .i1⟩
  | .hbm, ⟨60, _⟩ => ⟨S_, .i32⟩
  | .hbm, ⟨61, _⟩ => ⟨S5000, .i32⟩
  | .hbm, ⟨62, _⟩ => ⟨S5000, .i32⟩
  | .hbm, ⟨63, _⟩ => ⟨S5000, .i32⟩
  | .hbm, ⟨64, _⟩ => ⟨S5000x1, .i32⟩
  | .hbm, ⟨65, _⟩ => ⟨S5000, .i32⟩
  | .hbm, ⟨66, _⟩ => ⟨S_, .f32⟩
  | .hbm, ⟨67, _⟩ => ⟨S1x128, .f32⟩
  | .hbm, ⟨68, _⟩ => ⟨S5000x1, .i32⟩
  | .hbm, ⟨69, _⟩ => ⟨S1x128, .f32⟩
  | .hbm, ⟨70, _⟩ => ⟨S_, .f32⟩
  | .hbm, ⟨71, _⟩ => ⟨S5000, .f32⟩
  | .hbm, ⟨72, _⟩ => ⟨S_, .f32⟩
  | .hbm, ⟨73, _⟩ => ⟨S1, .f32⟩
  | .hbm, ⟨74, _⟩ => ⟨S5000x1, .i32⟩
  | .hbm, ⟨75, _⟩ => ⟨S1, .f32⟩
  | .hbm, ⟨76, _⟩ => ⟨S1x1, .f32⟩
  | .hbm, ⟨77, _⟩ => ⟨S1x128, .f32⟩
  | .hbm, ⟨78, _⟩ => ⟨S1x128, .f32⟩
  | .hbm, ⟨79, _⟩ => ⟨S1x256, .f32⟩
  | .hbm, ⟨80, _⟩ => ⟨S1x256, .f32⟩
  | .hbm, ⟨81, _⟩ => ⟨S1x256, .f32⟩
  | .hbm, ⟨82, _⟩ => ⟨S_, .f32⟩
  | .hbm, ⟨83, _⟩ => ⟨S1x256, .f32⟩
  | .hbm, ⟨84, _⟩ => ⟨S1x256, .f32⟩
  | .hbm, ⟨85, _⟩ => ⟨S1x128, .f32⟩
  | .hbm, ⟨86, _⟩ => ⟨S1x128, .f32⟩
  | .hbm, ⟨87, _⟩ => ⟨S1x128, .f32⟩
  | .hbm, ⟨88, _⟩ => ⟨S_, .f32⟩
  | .hbm, ⟨89, _⟩ => ⟨S1x128, .f32⟩
  | .hbm, ⟨90, _⟩ => ⟨S1x128, .f32⟩
  | .hbm, ⟨91, _⟩ => ⟨S1x10, .f32⟩
  | .hbm, ⟨92, _⟩ => ⟨S1x10, .f32⟩
  | .hbm, ⟨93, _⟩ => ⟨S1x10, .f32⟩
  | .hbm, ⟨94, _⟩ => ⟨S5000x256, .f32⟩
  | .hbm, ⟨95, _⟩ => ⟨S1x256, .f32⟩
  | .hbm, ⟨96, _⟩ => ⟨S5000x256, .f32⟩
  | .hbm, ⟨97, _⟩ => ⟨S5000x256, .f32⟩
  | .hbm, ⟨98, _⟩ => ⟨S_, .f32⟩
  | .hbm, ⟨99, _⟩ => ⟨S5000x256, .f32⟩
  | .hbm, ⟨100, _⟩ => ⟨S5000x256, .f32⟩
  | .hbm, ⟨101, _⟩ => ⟨S5000x128, .f32⟩
  | .hbm, ⟨102, _⟩ => ⟨S1x128, .f32⟩
  | .hbm, ⟨103, _⟩ => ⟨S5000x128, .f32⟩
  | .hbm, ⟨104, _⟩ => ⟨S5000x128, .f32⟩
  | .hbm, ⟨105, _⟩ => ⟨S_, .f32⟩
  | .hbm, ⟨106, _⟩ => ⟨S5000x128, .f32⟩
  | .hbm, ⟨107, _⟩ => ⟨S5000x128, .f32⟩
  | .hbm, ⟨108, _⟩ => ⟨S5000x1, .f32⟩
  | .hbm, ⟨109, _⟩ => ⟨S1x1, .f32⟩
  | .hbm, ⟨110, _⟩ => ⟨S5000x1, .f32⟩
  | .hbm, ⟨111, _⟩ => ⟨S5000x1, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_values : Ref sig .tc := ⟨.hbm, 43, rfl⟩
abbrev main_indices : Ref sig .tc := ⟨.hbm, 44, rfl⟩
abbrev main_c_1 : Ref sig .tc := ⟨.hbm, 45, rfl⟩
abbrev main_v22 : Ref sig .tc := ⟨.hbm, 46, rfl⟩
abbrev main_v23 : Ref sig .tc := ⟨.hbm, 47, rfl⟩
abbrev main_c_2 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_3 : Ref sig .tc := ⟨.hbm, 57, rfl⟩
abbrev main_v32 : Ref sig .tc := ⟨.hbm, 58, rfl⟩
abbrev main_v33 : Ref sig .tc := ⟨.hbm, 59, rfl⟩
abbrev main_c_4 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_5 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_6 : Ref sig .tc := ⟨.hbm, 70, rfl⟩
abbrev main_v42 : Ref sig .tc := ⟨.hbm, 71, rfl⟩
abbrev main_cst_7 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_8 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_9 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_10 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_11 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩

abbrev nD : Nat := 1
abbrev τ : Topo := Topo.v7x

variable {F : FTy → Type} [FloatOps F]
-- ==== Proof.Arrays.lean ====
/- What the kernel's one region leaves in its two result arrays, over the region's operand arrays. -/
module

public import proofs.«01_k».proof.Defs
public import proofs.«01_k».proof.Proof.Gen.KernelIdeal.Frame
public import Idealize.ShloMosaic.Lib.Pipeline.ValueKit
public import Idealize.ShloMosaic.Lib.Claim
public import Idealize.ShloMosaic.Lib.Pointwise

@[expose] public section

set_option maxRecDepth 16384

noncomputable section

namespace Cert.KernelIdeal.Arrays

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- Every input window's block index at the one point. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] :=
  (by decide +kernel : ∀ t : Fin grid0.N, _)

/-- Window 0's block read off contents `X` of its array is `X`. -/
theorem blk0 (t : Fin cfg0.N) (X : Vec Ideal S5120x128 .f32) : ((cfg0.win 0).blk t).view.read (Elt Ideal) X = X := by blk_ext! [idx t]
/-- Window 1's block read off contents `X` of its array is `X`. -/
theorem blk1 (t : Fin cfg0.N) (X : Vec Ideal S5120x1 .f32) : ((cfg0.win 1).blk t).view.read (Elt Ideal) X = X := by blk_ext! [idx t]
/-- Window 2's block read off contents `X` of its array is `X`. -/
theorem blk2 (t : Fin cfg0.N) (X : Vec Ideal S128x256 .f32) : ((cfg0.win 2).blk t).view.read (Elt Ideal) X = X := by blk_ext! [idx t]
/-- Window 3's block read off contents `X` of its array is `X`. -/
theorem blk3 (t : Fin cfg0.N) (X : Vec Ideal S1x256 .f32) : ((cfg0.win 3).blk t).view.read (Elt Ideal) X = X := by blk_ext! [idx t]
/-- Window 4's block read off contents `X` of its array is `X`. -/
theorem blk4 (t : Fin cfg0.N) (X : Vec Ideal S256x128 .f32) : ((cfg0.win 4).blk t).view.read (Elt Ideal) X = X := by blk_ext! [idx t]
/-- Window 5's block read off contents `X` of its array is `X`. -/
theorem blk5 (t : Fin cfg0.N) (X : Vec Ideal S1x128 .f32) : ((cfg0.win 5).blk t).view.read (Elt Ideal) X = X := by blk_ext! [idx t]
/-- Window 6's block read off contents `X` of its array is `X`. -/
theorem blk6 (t : Fin cfg0.N) (X : Vec Ideal S128x128 .f32) : ((cfg0.win 6).blk t).view.read (Elt Ideal) X = X := by blk_ext! [idx t]
/-- Window 7's block read off contents `X` of its array is `X`. -/
theorem blk7 (t : Fin cfg0.N) (X : Vec Ideal S1x128 .f32) : ((cfg0.win 7).blk t).view.read (Elt Ideal) X = X := by blk_ext! [idx t]
/-- Window 8's block read off contents `X` of its array is `X`. -/
theorem blk8 (t : Fin cfg0.N) (X : Vec Ideal S128x256 .f32) : ((cfg0.win 8).blk t).view.read (Elt Ideal) X = X := by blk_ext! [idx t]
/-- Window 9's block read off contents `X` of its array is `X`. -/
theorem blk9 (t : Fin cfg0.N) (X : Vec Ideal S1x256 .f32) : ((cfg0.win 9).blk t).view.read (Elt Ideal) X = X := by blk_ext! [idx t]
/-- Window 10's block read off contents `X` of its array is `X`. -/
theorem blk10 (t : Fin cfg0.N) (X : Vec Ideal S256x128 .f32) : ((cfg0.win 10).blk t).view.read (Elt Ideal) X = X := by blk_ext! [idx t]
/-- Window 11's block read off contents `X` of its array is `X`. -/
theorem blk11 (t : Fin cfg0.N) (X : Vec Ideal S1x128 .f32) : ((cfg0.win 11).blk t).view.read (Elt Ideal) X = X := by blk_ext! [idx t]
/-- Window 12's block read off contents `X` of its array is `X`. -/
theorem blk12 (t : Fin cfg0.N) (X : Vec Ideal S128x128 .f32) : ((cfg0.win 12).blk t).view.read (Elt Ideal) X = X := by blk_ext! [idx t]
/-- Window 13's block read off contents `X` of its array is `X`. -/
theorem blk13 (t : Fin cfg0.N) (X : Vec Ideal S1x128 .f32) : ((cfg0.win 13).blk t).view.read (Elt Ideal) X = X := by blk_ext! [idx t]

/-- Every window's block is its whole array: the block of an input window is the operand array itself. -/
theorem iblk0 (c : Dev nD) (t : Fin cfg0.N) : iblk m c 0 t = V m c main_v33 := blk0 t _
/-- The score column's block is its operand array. -/
theorem iblk1 (c : Dev nD) (t : Fin cfg0.N) : iblk m c 1 t = V m c main_v24 := blk1 t _
/-- The first gene weight's block is its operand array. -/
theorem iblk2 (c : Dev nD) (t : Fin cfg0.N) : iblk m c 2 t = V m c main_arg12 := blk2 t _
/-- The first gene bias' block is its operand array. -/
theorem iblk3 (c : Dev nD) (t : Fin cfg0.N) : iblk m c 3 t = V m c main_v51 := blk3 t _
/-- The second gene weight's block is its operand array. -/
theorem iblk4 (c : Dev nD) (t : Fin cfg0.N) : iblk m c 4 t = V m c main_arg14 := blk4 t _
/-- The second gene bias' block is its operand array. -/
theorem iblk5 (c : Dev nD) (t : Fin cfg0.N) : iblk m c 5 t = V m c main_v52 := blk5 t _
/-- The widened third gene weight's block is its operand array. -/
theorem iblk6 (c : Dev nD) (t : Fin cfg0.N) : iblk m c 6 t = V m c main_v36 := blk6 t _
/-- The widened third gene bias' block is its operand array. -/
theorem iblk7 (c : Dev nD) (t : Fin cfg0.N) : iblk m c 7 t = V m c main_v42 := blk7 t _
/-- The first prediction weight's block is its operand array. -/
theorem iblk8 (c : Dev nD) (t : Fin cfg0.N) : iblk m c 8 t = V m c main_arg6 := blk8 t _
/-- The first prediction bias' block is its operand array. -/
theorem iblk9 (c : Dev nD) (t : Fin cfg0.N) : iblk m c 9 t = V m c main_v53 := blk9 t _
/-- The second prediction weight's block is its operand array. -/
theorem iblk10 (c : Dev nD) (t : Fin cfg0.N) : iblk m c 10 t = V m c main_arg8 := blk10 t _
/-- The second prediction bias' block is its operand array. -/
theorem iblk11 (c : Dev nD) (t : Fin cfg0.N) : iblk m c 11 t = V m c main_v54 := blk11 t _
/-- The widened third prediction weight's block is its operand array. -/
theorem iblk12 (c : Dev nD) (t : Fin cfg0.N) : iblk m c 12 t = V m c main_v45 := blk12 t _
/-- The widened third prediction bias' block is its operand array. -/
theorem iblk13 (c : Dev nD) (t : Fin cfg0.N) : iblk m c 13 t = V m c main_v50 := blk13 t _

/-- After the region the gene-score array holds the gene head over the operand arrays. -/
theorem final14 (c : Dev nD) : (dats m 0 c).arrAt 14 cfg0.N
    = k0_pay3 (V m c main_v33) (V m c main_v24) (V m c main_arg12) (V m c main_v51) (V m c main_arg14) (V m c main_v52) (V m c main_v36) (V m c main_v42) := by
  refine (dats m 0 c).arrAt_eq_of_after_last 14 t0_0 (by decide +kernel) _ fun j => ?_
  blk_simp
  rw [after0_14]
  frame_out
  rw [iblk0, iblk1, iblk2, iblk3, iblk4, iblk5, iblk6, iblk7]

/-- After the region the prediction array holds the prediction head over the operand arrays. -/
theorem final15 (c : Dev nD) : (dats m 0 c).arrAt 15 cfg0.N
    = k0_pay1 (k0_pay2 (V m c main_v33) (V m c main_v24)) k0_pay4 (V m c main_arg6) (V m c main_v53) (V m c main_arg8) (V m c main_v54) (V m c main_v45) (V m c main_v50) := by
  refine (dats m 0 c).arrAt_eq_of_after_last 15 t0_0 (by decide +kernel) _ fun j => ?_
  blk_simp
  rw [after0_15]
  frame_out
  rw [iblk0, iblk1, iblk8, iblk9, iblk10, iblk11, iblk12, iblk13]

end Cert.KernelIdeal.Arrays

end
-- ==== Proof.Reads.lean ====
/- The region's operand arrays over the program's arguments: what the host operations before the region leave, written with the
   stages of the reference (the two programs compute the scores, the selection and the gathered rows by the same operations). -/
module

public import proofs.«01_k».proof.Defs
public import proofs.«01_k».proof.Proof.Gen.KernelIdeal.Frame
public import proofs.«01_k».proof.Proof.Gen.ReferenceIdeal.Read
public import Idealize.ShloMosaic.Lib.Pipeline.ValueKit
public import Idealize.ShloMosaic.Lib.Claim
public import Idealize.ShloMosaic.Lib.StableHlo.RunRead
public import Idealize.ShloMosaic.Lib.Pointwise

@[expose] public section

set_option maxRecDepth 16384

noncomputable section

namespace Cert.KernelIdeal.Reads

open Idealize.ShloMosaic Idealize.ShloMosaic.TcCoe Idealize.SL.Sem
open Cert.KernelIdeal Cert.KernelIdeal.Gen

variable (m : (ℓ : Loc nD τ sig) → Buf (Elt Ideal) ℓ)

/-- Bias 13 enters the region laid out as one row. -/
theorem read51 (c : Dev nD) : V m c main_v51 = shapeCast S1x256 (m ((c.tc : Thread nD τ).loc main_arg13)) shapeCasts_S256_S1x256 := by
  unfold V
  after_reads_simp
  rfl

/-- Bias 15 enters the region laid out as one row. -/
theorem read52 (c : Dev nD) : V m c main_v52 = shapeCast S1x128 (m ((c.tc : Thread nD τ).loc main_arg15)) shapeCasts_S128_S1x128 := by
  unfold V
  after_reads_simp
  rfl

/-- Bias 7 enters the region laid out as one row. -/
theorem read53 (c : Dev nD) : V m c main_v53 = shapeCast S1x256 (m ((c.tc : Thread nD τ).loc main_arg7)) shapeCasts_S256_S1x256 := by
  unfold V
  after_reads_simp
  rfl

/-- Bias 9 enters the region laid out as one row. -/
theorem read54 (c : Dev nD) : V m c main_v54 = shapeCast S1x128 (m ((c.tc : Thread nD τ).loc main_arg9)) shapeCasts_S128_S1x128 := by
  unfold V
  after_reads_simp
  rfl

/-- The gathered rows of the selected nodes, followed by 120 zero rows. -/
theorem read33 (c : Dev nD) : V m c main_v33
    = concatenate S5120x128 0 [⟨S5000x128, Cert.ReferenceIdeal.Read.val_main_v28 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))⟩,
        ⟨S120x128, broadcastInDim S120x128 ![] bcast_S_S120x128 (constant (F := Ideal) S_ .f32 0x00000000#32)⟩] concatenates_S5000x128_S120x128_S5120x128_d0 := by
  unfold V
  after_reads_simp
  refine congrArg₂ (fun a b => concatenate S5120x128 0 [⟨S5000x128, a⟩, ⟨S120x128, b⟩] concatenates_S5000x128_S120x128_S5120x128_d0) ?_ ?_
  · after_reads_simp
    rfl
  · after_reads_simp

/-- The selected scores, followed by 120 zeros, as a column. -/
theorem read24 (c : Dev nD) : V m c main_v24
    = shapeCast S5120x1 (concatenate S5120 0 [⟨S5000, Cert.ReferenceIdeal.Read.val_main_values (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))⟩,
        ⟨S120, broadcastInDim S120 ![] bcast_S_S120 (constant (F := Ideal) S_ .f32 0x00000000#32)⟩] concatenates_S5000_S120_S5120_d0) shapeCasts_S5120_S5120x1 := by
  unfold V
  after_reads_simp
  refine congrArg₂ (fun a b => shapeCast S5120x1 (concatenate S5120 0 [⟨S5000, a⟩, ⟨S120, b⟩] concatenates_S5000_S120_S5120_d0) shapeCasts_S5120_S5120x1) ?_ ?_
  · after_reads_simp
    rfl
  · after_reads_simp

/-- The third gene weight set into the first column of a zero matrix. -/
theorem read36 (c : Dev nD) : V m c main_v36
    = Host.scatter scatter_S128x128_S1_S128x1_01_n_1_0 (fun _ b => b) (broadcastInDim S128x128 ![] bcast_S_S128x128 (constant (F := Ideal) S_ .f32 0x00000000#32)) (broadcastInDim S1 ![] bcast_S_S1 (constantI S_ 32 0#32)) (m ((c.tc : Thread nD τ).loc main_arg16)) := by
  unfold V
  after_reads_simp

/-- The third gene bias set into the first cell of a zero row. -/
theorem read42 (c : Dev nD) : V m c main_v42
    = Host.scatter scatter_S1x128_S2_S__n_01_01_0 (fun _ b => b) (broadcastInDim S1x128 ![] bcast_S_S1x128 (constant (F := Ideal) S_ .f32 0x00000000#32)) (concatenate S2 0 [⟨S1, broadcastInDim S1 ![] bcast_S_S1 (constantI S_ 32 0#32)⟩, ⟨S1, broadcastInDim S1 ![] bcast_S_S1 (constantI S_ 32 0#32)⟩] concatenates_S1_S1_S2_d0) (shapeCast S_ (m ((c.tc : Thread nD τ).loc main_arg17)) shapeCasts_S1_S_) := by
  unfold V
  after_reads_simp
  refine congrArg (fun i => Host.scatter scatter_S1x128_S2_S__n_01_01_0 (fun _ b => b) (broadcastInDim S1x128 ![] bcast_S_S1x128 (constant (F := Ideal) S_ .f32 0x00000000#32)) i (shapeCast S_ (m ((c.tc : Thread nD τ).loc main_arg17)) shapeCasts_S1_S_)) ?_
  refine congrArg₂ (fun a b => concatenate S2 0 [⟨S1, a⟩, ⟨S1, b⟩] concatenates_S1_S1_S2_d0) ?_ ?_
  · after_reads_simp
  · after_reads_simp

/-- The third prediction weight set into the first ten columns of a zero matrix. -/
theorem read45 (c : Dev nD) : V m c main_v45
    = Host.scatter scatter_S128x128_S1_S128x10_01_n_1_0 (fun _ b => b) (broadcastInDim S128x128 ![] bcast_S_S128x128 (constant (F := Ideal) S_ .f32 0x00000000#32)) (broadcastInDim S1 ![] bcast_S_S1 (constantI S_ 32 0#32)) (m ((c.tc : Thread nD τ).loc main_arg10)) := by
  unfold V
  after_reads_simp

/-- The third prediction bias set into the first ten cells of a zero row. -/
theorem read50 (c : Dev nD) : V m c main_v50
    = Host.scatter scatter_S1x128_S2_S10_0_0_01_0 (fun _ b => b) (broadcastInDim S1x128 ![] bcast_S_S1x128 (constant (F := Ideal) S_ .f32 0x00000000#32)) (concatenate S2 0 [⟨S1, broadcastInDim S1 ![] bcast_S_S1 (constantI S_ 32 0#32)⟩, ⟨S1, broadcastInDim S1 ![] bcast_S_S1 (constantI S_ 32 0#32)⟩] concatenates_S1_S1_S2_d0) (m ((c.tc : Thread nD τ).loc main_arg11)) := by
  unfold V
  after_reads_simp
  refine congrArg (fun i => Host.scatter scatter_S1x128_S2_S10_0_0_01_0 (fun _ b => b) (broadcastInDim S1x128 ![] bcast_S_S1x128 (constant (F := Ideal) S_ .f32 0x00000000#32)) i (m ((c.tc : Thread nD τ).loc main_arg11))) ?_
  refine congrArg₂ (fun a b => concatenate S2 0 [⟨S1, a⟩, ⟨S1, b⟩] concatenates_S1_S1_S2_d0) ?_ ?_
  · after_reads_simp
  · after_reads_simp

/-- The selected nodes' numbers are the reference's. -/
theorem readIdx (c : Dev nD) : V m c main_indices = Cert.ReferenceIdeal.Read.val_main_indices (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  unfold V
  after_reads_simp
  rfl

end Cert.KernelIdeal.Reads

end
-- ==== Proof.Heads.lean ====
/- The kernel body's two heads read at one row and lane, as sums over the operands' elements. -/
module

public import proofs.«01_k».proof.Defs
public import proofs.«01_k».proof.Proof.Gen.KernelIdeal.Skeleton
public import Idealize.ShloMosaic.Lib.Pipeline.ValueKit
public import Idealize.ShloMosaic.Lib.Claim
public import Idealize.ShloMosaic.Lib.Pointwise

@[expose] public section

set_option maxRecDepth 16384

noncomputable section

namespace Cert.Heads

open Idealize.ShloMosaic Idealize.ShloMosaic.TcCoe Idealize.SL.Sem
open Cert.KernelIdeal Cert.KernelIdeal.Gen

/-- The two hidden layers of a head over one input row: each layer multiplies by its weight, adds its bias and keeps the positive part. -/
def layers (row : Fin 128 → EReal) (w1 : FVec Ideal S128x256 .f32) (b1 : Fin 256 → EReal) (w2 : FVec Ideal S256x128 .f32) (b2 : Fin 128 → EReal)
    (l : Fin 128) : EReal :=
  max ((∑ k : Fin 256, max ((∑ i : Fin 128, row i * w1 (ix2 i k)) + b1 k) 0 * w2 (ix2 k l)) + b2 l) 0

/-- The gene head at row `r`, lane `l`: the hidden layers of the scaled row, then the third weight and bias. -/
theorem pay3_at (xg : FVec Ideal S5120x128 .f32) (ts : FVec Ideal S5120x1 .f32) (w1 : FVec Ideal S128x256 .f32) (b1 : FVec Ideal S1x256 .f32)
    (w2 : FVec Ideal S256x128 .f32) (b2 : FVec Ideal S1x128 .f32) (w3 : FVec Ideal S128x128 .f32) (b3 : FVec Ideal S1x128 .f32) (r : Fin 5120) (l : Fin 128) :
    k0_pay3 (F := Ideal) xg ts w1 b1 w2 b2 w3 b3 (ix2 r l)
      = (∑ k : Fin 128, layers (fun i => xg (ix2 r i) * ts (ix2 r 0)) w1 (fun k => b1 (ix2 0 k)) w2 (fun k => b2 (ix2 0 k)) k * w3 (ix2 k l)) + b3 (ix2 0 l) := by
  pointwise [k0_pay3, k0_pay2, layers]

/-- The prediction head at row `r`, lane `l`: the hidden layers of the masked rows' total divided by the row count, then the third weight and bias. -/
theorem pay1_at (x : FVec Ideal S5120x128 .f32) (mk : FVec Ideal S5120x1 .f32) (w1 : FVec Ideal S128x256 .f32) (b1 : FVec Ideal S1x256 .f32)
    (w2 : FVec Ideal S256x128 .f32) (b2 : FVec Ideal S1x128 .f32) (w3 : FVec Ideal S128x128 .f32) (b3 : FVec Ideal S1x128 .f32) (r : Fin 8) (l : Fin 128) :
    k0_pay1 (F := Ideal) x mk w1 b1 w2 b2 w3 b3 (ix2 r l)
      = (∑ k : Fin 128, layers (fun i => Ideal.div (∑ s : Fin 5120, x (ix2 s i) * mk (ix2 s 0)) (Ideal.ofBits .f32 0x459C4000#32)) w1 (fun k => b1 (ix2 0 k)) w2 (fun k => b2 (ix2 0 k)) k * w3 (ix2 k l)) + b3 (ix2 0 l) := by
  pointwise [k0_pay1, layers]

/-- The row mask is one on the first 5000 rows and zero on the padding. -/
theorem pay4_at (r : Fin 5120) : k0_pay4 (F := Ideal) (ix2 r 0) = if r.val < 5000 then 1 else 0 := by
  have h : ∀ r : Fin 5120, BitVec.setWidth 32 (IntOp.cmpi .slt (BitVec.ofNat 32 r.val) 5000#32) = if r.val < 5000 then 1#32 else 0#32 := by decide +kernel
  pointwise [k0_pay4]
  rw [h r]
  split
  · show (((1#32 : BitVec 32).toInt : ℝ) : EReal) = 1
    norm_num
  · show (((0#32 : BitVec 32).toInt : ℝ) : EReal) = 0
    norm_num

/-- The scaled rows. -/
theorem pay2_at (xg : FVec Ideal S5120x128 .f32) (ts : FVec Ideal S5120x1 .f32) (r : Fin 5120) (l : Fin 128) :
    k0_pay2 (F := Ideal) xg ts (ix2 r l) = xg (ix2 r l) * ts (ix2 r 0) := by
  pointwise [k0_pay2]

end Cert.Heads

end
-- ==== Proof.Scatters.lean ====
/- The scatters of the two programs read at an index: the kernel sets its third-layer weights and biases into zero arrays of
   128 lanes; the reference adds the selected rows, and a one for each, into the row of the one graph. -/
module

public import proofs.«01_k».proof.Defs
public import proofs.«01_k».proof.Proof.Gen.KernelIdeal
public import proofs.«01_k».proof.Proof.Gen.ReferenceIdeal
public import Idealize.ShloMosaic.Lib.Routing.OpsSet
public import Idealize.ShloMosaic.Lib.Routing.OpsPair
public import Idealize.ShloMosaic.Lib.Pipeline.ValueKit
public import Idealize.ShloMosaic.Lib.Claim
public import Idealize.ShloMosaic.Lib.Pointwise

@[expose] public section

set_option maxRecDepth 16384

noncomputable section

namespace Cert.Scatters

open Idealize.ShloMosaic Idealize.ShloMosaic.Routing Idealize.SL.Sem

section Kernel

open Cert.KernelIdeal

/-- A start of an all-zero index word is zero, on an axis the scatter's map names or not. -/
theorem start_zero {s si u : Shape} {w : Nat} (d : ScatterDims s si u) (idx : IVec si w) (h : ∀ i, idx i = 0#w) (k : u.Idx) (a : Fin s.rank) :
    d.start k idx a = 0 := by
  unfold ScatterDims.start
  split
  · rw [h]; exact BitVec.toInt_zero
  · rfl

/-- The third gene weight fills the first column. -/
theorem set36 (x : FVec Ideal S128x128 .f32) (idx : IVec S1 32) (h : ∀ i, idx i = 0#32) (upd : FVec Ideal S128x1 .f32) (r : Fin 128) :
    Host.scatter scatter_S128x128_S1_S128x1_01_n_1_0 (fun _ b => b) x idx upd (ix2 r 0) = upd (ix2 r 0) := by
  have hl : ∀ k : S128x1.Idx, scatter_S128x128_S1_S128x1_01_n_1_0.resultIdx? k idx = some (ix2 r 0) ↔ (k 0).val = r.val := by
    intro k
    refine (resultIdx?_ix2 _ k idx _ _).trans ?_
    rw [start_zero _ _ h, start_zero _ _ h]
    have h0 : scatter_S128x128_S1_S128x1_01_n_1_0.window k 0 = (k 0).val := rfl
    have h1 : scatter_S128x128_S1_S128x1_01_n_1_0.window k 1 = (k 1).val := rfl
    rw [h0, h1]
    have : (k 1).val < 1 := (k 1).isLt
    constructor
    · rintro ⟨p, q⟩; omega
    · intro p; refine ⟨by omega, ?_⟩; show _ = ((0 : Nat) : Int); omega
  refine scatter_set_hit _ _ _ _ _ _ (fun k hk => ?_) (ix2 r 0) ((hl _).2 rfl)
  have e := (hl k).1 hk
  refine congrArg upd (funext fun a => Fin.ext ?_)
  match a with
  | ⟨0, _⟩ => exact e
  | ⟨1, _⟩ => have : (k 1).val < 1 := (k 1).isLt; show (k 1).val = 0; omega

/-- The third prediction weight fills the first ten columns. -/
theorem set45 (x : FVec Ideal S128x128 .f32) (idx : IVec S1 32) (h : ∀ i, idx i = 0#32) (upd : FVec Ideal S128x10 .f32) (r : Fin 128) (l : Fin 10) :
    Host.scatter scatter_S128x128_S1_S128x10_01_n_1_0 (fun _ b => b) x idx upd (ix2 r (⟨l.val, by omega⟩ : Fin 128)) = upd (ix2 r l) := by
  have hl : ∀ k : S128x10.Idx, scatter_S128x128_S1_S128x10_01_n_1_0.resultIdx? k idx = some (ix2 r (⟨l.val, by omega⟩ : Fin 128)) ↔ (k 0).val = r.val ∧ (k 1).val = l.val := by
    intro k
    refine (resultIdx?_ix2 _ k idx _ _).trans ?_
    rw [start_zero _ _ h, start_zero _ _ h]
    have h0 : scatter_S128x128_S1_S128x10_01_n_1_0.window k 0 = (k 0).val := rfl
    have h1 : scatter_S128x128_S1_S128x10_01_n_1_0.window k 1 = (k 1).val := rfl
    rw [h0, h1]
    constructor
    · rintro ⟨p, q⟩; dsimp only at q; omega
    · rintro ⟨p, q⟩; dsimp only; omega
  refine scatter_set_hit _ _ _ _ _ _ (fun k hk => ?_) (ix2 r l) ((hl _).2 ⟨rfl, rfl⟩)
  have e := (hl k).1 hk
  refine congrArg upd (funext fun a => Fin.ext ?_)
  match a with
  | ⟨0, _⟩ => exact e.1
  | ⟨1, _⟩ => exact e.2

/-- The third gene bias fills the first cell. -/
theorem set42 (x : FVec Ideal S1x128 .f32) (idx : IVec S2 32) (h : ∀ i, idx i = 0#32) (upd : FVec Ideal S_ .f32) (i : S_.Idx) :
    Host.scatter scatter_S1x128_S2_S__n_01_01_0 (fun _ b => b) x idx upd (ix2 0 0) = upd i := by
  refine scatter_set_hit _ _ _ _ _ _ (fun k hk => congrArg upd (funext fun a => a.elim0)) i ?_
  refine (resultIdx?_ix2 _ i idx _ _).2 ?_
  rw [start_zero _ _ h, start_zero _ _ h]
  exact ⟨rfl, rfl⟩

/-- The third prediction bias fills the first ten cells. -/
theorem set50 (x : FVec Ideal S1x128 .f32) (idx : IVec S2 32) (h : ∀ i, idx i = 0#32) (upd : FVec Ideal S10 .f32) (l : Fin 10) :
    Host.scatter scatter_S1x128_S2_S10_0_0_01_0 (fun _ b => b) x idx upd (ix2 0 (⟨l.val, by omega⟩ : Fin 128)) = upd (ix1 l) := by
  have hl : ∀ k : S10.Idx, scatter_S1x128_S2_S10_0_0_01_0.resultIdx? k idx = some (ix2 0 (⟨l.val, by omega⟩ : Fin 128)) ↔ (k 0).val = l.val := by
    intro k
    refine (resultIdx?_ix2 _ k idx _ _).trans ?_
    rw [start_zero _ _ h, start_zero _ _ h]
    have h0 : scatter_S1x128_S2_S10_0_0_01_0.window k 0 = 0 := rfl
    have h1 : scatter_S1x128_S2_S10_0_0_01_0.window k 1 = (k 0).val := rfl
    rw [h0, h1]
    constructor
    · rintro ⟨p, q⟩; dsimp only at q; omega
    · intro q; exact ⟨rfl, by dsimp only; omega⟩
  refine scatter_set_hit _ _ _ _ _ _ (fun k hk => ?_) (ix1 l) ((hl _).2 rfl)
  have e := (hl k).1 hk
  refine congrArg upd (funext fun a => Fin.ext ?_)
  match a with
  | ⟨0, _⟩ => exact e

end Kernel

section Reference

open Cert.ReferenceIdeal

/-- Rows added into row zero: each lane's start value plus the sum of the 5000 rows' elements on it. -/
theorem add41 (x : FVec Ideal S1x128 .f32) (idx : IVec S5000x1 32) (h : ∀ i, idx i = 0#32) (upd : FVec Ideal S5000x128 .f32) (l : Fin 128) :
    Host.scatterAdd scatter_S1x128_S5000x1_S5000x128_1_0_0_1 x idx upd (ix2 0 l) = x (ix2 0 l) + ∑ r : Fin 5000, upd (ix2 r l) := by
  have hl : ∀ k : S5000x128.Idx, scatter_S1x128_S5000x1_S5000x128_1_0_0_1.resultIdx? k idx = some (ix2 0 l) ↔ (k 1).val = l.val := by
    intro k
    refine (resultIdx?_ix2 _ k idx _ _).trans ?_
    rw [start_zero _ _ h, start_zero _ _ h]
    have h0 : scatter_S1x128_S5000x1_S5000x128_1_0_0_1.window k 0 = 0 := rfl
    have h1 : scatter_S1x128_S5000x1_S5000x128_1_0_0_1.window k 1 = (k 1).val := rfl
    rw [h0, h1]
    constructor
    · rintro ⟨p, q⟩; omega
    · intro q; exact ⟨rfl, by omega⟩
  show x (ix2 0 l) + ∑ j ∈ Finset.univ.filter (fun j => scatter_S1x128_S5000x1_S5000x128_1_0_0_1.resultIdx? j idx = some (ix2 0 l)), upd j = _
  refine congrArg (x (ix2 0 l) + ·) ?_
  refine Finset.sum_bij' (fun j _ => (⟨(j 0).val, (j 0).isLt⟩ : Fin 5000)) (fun r _ => (ix2 r l : S5000x128.Idx)) (fun _ _ => Finset.mem_univ _)
    (fun r _ => Finset.mem_filter.2 ⟨Finset.mem_univ _, (hl _).2 rfl⟩) (fun j hj => ?_) (fun _ _ => rfl) (fun j hj => ?_)
  all_goals
    have e := (hl j).1 (Finset.mem_filter.1 hj).2
    have e' : (ix2 (⟨(j 0).val, (j 0).isLt⟩ : Fin 5000) l : S5000x128.Idx) = j := funext fun a => Fin.ext (by
      match a with
      | ⟨0, _⟩ => rfl
      | ⟨1, _⟩ => exact e.symm)
  · exact e'
  · exact congrArg upd e'.symm

/-- Cells added into cell zero: its start value plus the sum of all 5000 updates. -/
theorem add45 (x : FVec Ideal S1 .f32) (idx : IVec S5000x1 32) (h : ∀ i, idx i = 0#32) (upd : FVec Ideal S5000 .f32) :
    Host.scatterAdd scatter_S1_S5000x1_S5000_n_0_0_1 x idx upd (ix1 0) = x (ix1 0) + ∑ r : Fin 5000, upd (ix1 r) := by
  have hl : ∀ k : S5000.Idx, scatter_S1_S5000x1_S5000_n_0_0_1.resultIdx? k idx = some (ix1 0) := by
    intro k
    refine (resultIdx?_ix1 _ k idx _).2 ?_
    rw [start_zero _ _ h]
    rfl
  show x (ix1 0) + ∑ j ∈ Finset.univ.filter (fun j => scatter_S1_S5000x1_S5000_n_0_0_1.resultIdx? j idx = some (ix1 0)), upd j = _
  refine congrArg (x (ix1 0) + ·) ?_
  refine Finset.sum_bij' (fun j _ => (⟨(j 0).val, (j 0).isLt⟩ : Fin 5000)) (fun r _ => (ix1 r : S5000.Idx)) (fun _ _ => Finset.mem_univ _)
    (fun r _ => Finset.mem_filter.2 ⟨Finset.mem_univ _, hl _⟩) (fun j hj => ?_) (fun _ _ => rfl) (fun j hj => ?_)
  all_goals
    have e' : (ix1 (⟨(j 0).val, (j 0).isLt⟩ : Fin 5000) : S5000.Idx) = j := funext fun a => Fin.ext (by
      match a with
      | ⟨0, _⟩ => rfl)
  · exact e'
  · exact congrArg upd e'.symm

/-- The bit pattern of the kernel's row count is the number 5000. -/
theorem count : Ideal.ofBits .f32 0x459C4000#32 = ((5000 : ℕ) : EReal) := by
  rw [← EReal.coe_natCast]
  simp [Ideal.ofBits, Ideal.ieee, -EReal.coe_mul]; norm_num

/-- Five thousand ones add up to 5000. -/
theorem sum_ones : (∑ _r : Fin 5000, (1 : EReal)) = ((5000 : ℕ) : EReal) := by
  rw [Finset.sum_const, Finset.card_univ, Fintype.card_fin, nsmul_one]

end Reference

end Cert.Scatters

end
-- ==== Proof.Compare.lean ====
/- The kernel's results over the operand arrays against the reference's: the gene scores of the 5000 selected rows, and the
   ten predictions of the one graph. -/
module

public import proofs.«01_k».proof.Defs
public import proofs.«01_k».proof.Proof.Heads
public import proofs.«01_k».proof.Proof.Scatters
public import proofs.«01_k».proof.Proof.Gen.KernelIdeal.Skeleton
public import proofs.«01_k».proof.Proof.Gen.ReferenceIdeal.Read
public import Idealize.ShloMosaic.Lib.Pipeline.ValueKit
public import Idealize.ShloMosaic.Lib.Claim
public import Idealize.ShloMosaic.Lib.Pointwise

@[expose] public section

set_option maxRecDepth 16384

noncomputable section

namespace Cert.Compare

open Idealize.ShloMosaic Idealize.ShloMosaic.TcCoe Idealize.SL.Sem
open Cert.KernelIdeal Cert.KernelIdeal.Gen Cert.Heads Cert.Scatters
open Cert.ReferenceIdeal.Read

/-! ## The operand arrays at an index -/

/-- The padded rows: a selected row on the first 5000. -/
theorem rows_at (x : FVec Ideal S5000x128 .f32) (r : Fin 5000) (l : Fin 128) :
    concatenate S5120x128 0 [⟨S5000x128, x⟩, ⟨S120x128, broadcastInDim S120x128 ![] bcast_S_S120x128 (constant (F := Ideal) S_ .f32 0x00000000#32)⟩]
      concatenates_S5000x128_S120x128_S5120x128_d0 (ix2 (⟨r.val, by omega⟩ : Fin 5120) l) = x (ix2 r l) := by
  pointwise

/-- The padded score column: a selected score on the first 5000 rows. -/
theorem col_at (x : FVec Ideal S5000 .f32) (r : Fin 5000) :
    shapeCast S5120x1 (concatenate S5120 0 [⟨S5000, x⟩, ⟨S120, broadcastInDim S120 ![] bcast_S_S120 (constant (F := Ideal) S_ .f32 0x00000000#32)⟩]
      concatenates_S5000_S120_S5120_d0) shapeCasts_S5120_S5120x1 (ix2 (⟨r.val, by omega⟩ : Fin 5120) 0) = x (ix1 r) := by
  pointwise

/-- A bias laid out as a row of 256 lanes. -/
theorem row256_at (x : FVec Ideal S256 .f32) (l : Fin 256) : shapeCast S1x256 x shapeCasts_S256_S1x256 (ix2 0 l) = x (ix1 l) := by
  pointwise

/-- A bias laid out as a row of 128 lanes. -/
theorem row128_at (x : FVec Ideal S128 .f32) (l : Fin 128) : shapeCast S1x128 x shapeCasts_S128_S1x128 (ix2 0 l) = x (ix1 l) := by
  pointwise

/-- The all-zero index word of a scatter into a matrix. -/
theorem word1 (i : S1.Idx) : broadcastInDim S1 ![] bcast_S_S1 (constantI S_ 32 0#32) i = 0#32 := by
  pointwise

/-- The all-zero index pair of a scatter into a row. -/
theorem word2 (i : S2.Idx) : concatenate S2 0 [⟨S1, broadcastInDim S1 ![] bcast_S_S1 (constantI S_ 32 0#32)⟩, ⟨S1, broadcastInDim S1 ![] bcast_S_S1 (constantI S_ 32 0#32)⟩]
    concatenates_S1_S1_S2_d0 i = 0#32 := by
  idx_vars i
  pointwise
  split <;> rfl

/-! ## The reference at an index -/

section Ref

variable (x0 : FVec Ideal S10000x128 .f32) (x1 : IVec S2x320000 32) (x2 : IVec S10000 32) (x3 : FVec Ideal S128x1 .f32) (x4 : FVec Ideal S1 .f32) (x5 : FVec Ideal S128x1 .f32)

/-- A selected row scaled by its score. -/
theorem v31_at (r : Fin 5000) (l : Fin 128) : val_main_v31 (F := Ideal) x0 x1 x3 x4 x5 (ix2 r l)
    = val_main_v28 (F := Ideal) x0 x1 x3 x4 x5 (ix2 r l) * val_main_values (F := Ideal) x0 x1 x3 x4 x5 (ix1 r) := by
  pointwise [val_main_v31, val_main_v30, val_main_v29]

/-- The reference's gene score of a selected row. -/
theorem v77_at (w1 : FVec Ideal S128x256 .f32) (b1 : FVec Ideal S256 .f32) (w2 : FVec Ideal S256x128 .f32) (b2 : FVec Ideal S128 .f32)
    (w3 : FVec Ideal S128x1 .f32) (b3 : FVec Ideal S1 .f32) (r : Fin 5000) :
    val_main_v77 (F := Ideal) x0 x1 x3 x4 x5 w1 b1 w2 b2 w3 b3 (ix2 r 0)
      = (∑ k : Fin 128, layers (fun i => val_main_v31 (F := Ideal) x0 x1 x3 x4 x5 (ix2 r i)) w1 (fun k => b1 (ix1 k)) w2 (fun k => b2 (ix1 k)) k * w3 (ix2 k 0)) + b3 (ix1 0) := by
  generalize hv : val_main_v31 (F := Ideal) x0 x1 x3 x4 x5 = y
  unfold val_main_v77 val_main_v76 val_main_v75 val_main_v74 val_main_v73 val_main_v72 val_main_v71 val_main_v70 val_main_v69 val_main_v68 val_main_v67 val_main_v66 val_main_v65 val_main_cst_10 val_main_cst_11 val_main_v64 val_main_v63 val_main_v62
  rw [hv]
  pointwise [layers]

/-- The reference's predictions, over the mean row. -/
theorem v61_at (w1 : FVec Ideal S128x256 .f32) (b1 : FVec Ideal S256 .f32) (w2 : FVec Ideal S256x128 .f32) (b2 : FVec Ideal S128 .f32)
    (w3 : FVec Ideal S128x10 .f32) (b3 : FVec Ideal S10 .f32) (l : Fin 10) :
    val_main_v61 (F := Ideal) x0 x1 x2 x3 x4 x5 w1 b1 w2 b2 w3 b3 (ix2 0 l)
      = (∑ k : Fin 128, layers (fun i => val_main_v48 (F := Ideal) x0 x1 x2 x3 x4 x5 (ix2 0 i)) w1 (fun k => b1 (ix1 k)) w2 (fun k => b2 (ix1 k)) k * w3 (ix2 k l)) + b3 (ix1 l) := by
  generalize hv : val_main_v48 (F := Ideal) x0 x1 x2 x3 x4 x5 = y
  unfold val_main_v61 val_main_v60 val_main_v59 val_main_v58 val_main_v57 val_main_v56 val_main_v55 val_main_v54 val_main_v53 val_main_v52 val_main_v51 val_main_v50 val_main_v49 val_main_cst_8 val_main_cst_9
  rw [hv]
  pointwise [layers]

/-- With every node in graph zero, the graph number gathered for a selected node is zero. -/
theorem v38_zero (hb : ∀ i, x2 i = 0#32) (i : S5000.Idx) : val_main_v38 (F := Ideal) x0 x1 x2 x3 x4 x5 i = 0#32 := by
  unfold val_main_v38
  generalize val_main_v37 (F := Ideal) x0 x1 x3 x4 x5 = y
  unfold Host.gather
  exact hb _

/-- With every node in graph zero, the mean row is the total of the scaled rows divided by 5000. -/
theorem v48_at (hb : ∀ i, x2 i = 0#32) (l : Fin 128) : val_main_v48 (F := Ideal) x0 x1 x2 x3 x4 x5 (ix2 0 l)
    = Ideal.div (∑ r : Fin 5000, val_main_v31 (F := Ideal) x0 x1 x3 x4 x5 (ix2 r l)) ((5000 : ℕ) : EReal) := by
  have h40 : ∀ i, val_main_v40 (F := Ideal) x0 x1 x2 x3 x4 x5 i = 0#32 := fun i => by
    rw [val_main_v40_apply]; exact v38_zero x0 x1 x2 x3 x4 x5 hb _
  have h44 : ∀ i, val_main_v44 (F := Ideal) x0 x1 x2 x3 x4 x5 i = 0#32 := fun i => by
    rw [val_main_v44_apply]; exact v38_zero x0 x1 x2 x3 x4 x5 hb _
  have h41 := add41 (val_main_v39 (F := Ideal)) _ h40 (val_main_v31 (F := Ideal) x0 x1 x3 x4 x5) l
  have h45 := add45 (val_main_v43 (F := Ideal)) _ h44 (val_main_v42 (F := Ideal))
  have z39 : val_main_v39 (F := Ideal) (ix2 0 l) = 0 := by pointwise [val_main_v39, val_main_cst_5]
  have z43 : val_main_v43 (F := Ideal) (ix1 0) = 0 := by pointwise [val_main_v43, val_main_cst_7]
  have o42 : ∀ r : Fin 5000, val_main_v42 (F := Ideal) (ix1 r) = 1 := fun r => by pointwise [val_main_v42, val_main_cst_6]
  rw [z39, zero_add] at h41
  rw [z43, zero_add, Finset.sum_congr rfl fun r _ => o42 r, sum_ones] at h45
  have e : val_main_v48 (F := Ideal) x0 x1 x2 x3 x4 x5 (ix2 0 l)
      = Ideal.div (val_main_v41 (F := Ideal) x0 x1 x2 x3 x4 x5 (ix2 0 l)) (val_main_v45 (F := Ideal) x0 x1 x2 x3 x4 x5 (ix1 0)) := by
    generalize h1 : val_main_v41 (F := Ideal) x0 x1 x2 x3 x4 x5 = y
    generalize h2 : val_main_v45 (F := Ideal) x0 x1 x2 x3 x4 x5 = z
    unfold val_main_v48 val_main_v47 val_main_v46
    rw [h1, h2]
    pointwise
  rw [e]
  unfold val_main_v41 val_main_v45
  rw [h41, h45]

/-! ## The two results -/

/-- The kernel's gene head, over the padded operands, is the reference's gene score on each of the 5000 selected rows. -/
theorem gene (w1 : FVec Ideal S128x256 .f32) (b1 : FVec Ideal S256 .f32) (w2 : FVec Ideal S256x128 .f32) (b2 : FVec Ideal S128 .f32)
    (w3 : FVec Ideal S128x1 .f32) (b3 : FVec Ideal S1 .f32) (r : Fin 5000) :
    k0_pay3 (F := Ideal) (concatenate S5120x128 0 [⟨S5000x128, val_main_v28 (F := Ideal) x0 x1 x3 x4 x5⟩, ⟨S120x128, broadcastInDim S120x128 ![] bcast_S_S120x128 (constant (F := Ideal) S_ .f32 0x00000000#32)⟩] concatenates_S5000x128_S120x128_S5120x128_d0)
      (shapeCast S5120x1 (concatenate S5120 0 [⟨S5000, val_main_values (F := Ideal) x0 x1 x3 x4 x5⟩, ⟨S120, broadcastInDim S120 ![] bcast_S_S120 (constant (F := Ideal) S_ .f32 0x00000000#32)⟩] concatenates_S5000_S120_S5120_d0) shapeCasts_S5120_S5120x1)
      w1 (shapeCast S1x256 b1 shapeCasts_S256_S1x256) w2 (shapeCast S1x128 b2 shapeCasts_S128_S1x128)
      (Host.scatter scatter_S128x128_S1_S128x1_01_n_1_0 (fun _ b => b) (broadcastInDim S128x128 ![] bcast_S_S128x128 (constant (F := Ideal) S_ .f32 0x00000000#32)) (broadcastInDim S1 ![] bcast_S_S1 (constantI S_ 32 0#32)) w3)
      (Host.scatter scatter_S1x128_S2_S__n_01_01_0 (fun _ b => b) (broadcastInDim S1x128 ![] bcast_S_S1x128 (constant (F := Ideal) S_ .f32 0x00000000#32)) (concatenate S2 0 [⟨S1, broadcastInDim S1 ![] bcast_S_S1 (constantI S_ 32 0#32)⟩, ⟨S1, broadcastInDim S1 ![] bcast_S_S1 (constantI S_ 32 0#32)⟩] concatenates_S1_S1_S2_d0) (shapeCast S_ b3 shapeCasts_S1_S_))
      (ix2 (⟨r.val, by omega⟩ : Fin 5120) 0)
      = val_main_v77 (F := Ideal) x0 x1 x3 x4 x5 w1 b1 w2 b2 w3 b3 (ix2 r 0) := by
  have hb : shapeCast S_ b3 shapeCasts_S1_S_ ix0 = b3 (ix1 0) := by pointwise
  rw [pay3_at, v77_at]
  refine congrArg₂ (· + ·) (Finset.sum_congr rfl fun k _ => congrArg₂ (· * ·) ?_ (set36 _ _ word1 _ _)) ((set42 _ _ word2 _ ix0).trans hb)
  have e1 : (fun i : Fin 128 => (concatenate S5120x128 0 [⟨S5000x128, val_main_v28 (F := Ideal) x0 x1 x3 x4 x5⟩, ⟨S120x128, broadcastInDim S120x128 ![] bcast_S_S120x128 (constant (F := Ideal) S_ .f32 0x00000000#32)⟩] concatenates_S5000x128_S120x128_S5120x128_d0) (ix2 (⟨r.val, by omega⟩ : Fin 5120) i)
      * (shapeCast S5120x1 (concatenate S5120 0 [⟨S5000, val_main_values (F := Ideal) x0 x1 x3 x4 x5⟩, ⟨S120, broadcastInDim S120 ![] bcast_S_S120 (constant (F := Ideal) S_ .f32 0x00000000#32)⟩] concatenates_S5000_S120_S5120_d0) shapeCasts_S5120_S5120x1) (ix2 (⟨r.val, by omega⟩ : Fin 5120) 0))
      = fun i => val_main_v31 (F := Ideal) x0 x1 x3 x4 x5 (ix2 r i) := funext fun i =>
    (congrArg₂ (· * ·) (rows_at _ r i) (col_at _ r)).trans (v31_at x0 x1 x3 x4 x5 r i).symm
  have e2 : (fun k => (shapeCast S1x256 b1 shapeCasts_S256_S1x256) (ix2 0 k)) = fun k => b1 (ix1 k) := funext fun k => row256_at b1 k
  have e3 : (fun k => (shapeCast S1x128 b2 shapeCasts_S128_S1x128) (ix2 0 k)) = fun k => b2 (ix1 k) := funext fun k => row128_at b2 k
  rw [e1, e2, e3]

/-- The masked total over the 5120 padded rows is the total over the 5000 selected rows. -/
theorem total (x : FVec Ideal S5120x128 .f32) (l : Fin 128) :
    (∑ s : Fin 5120, x (ix2 s l) * k0_pay4 (F := Ideal) (ix2 s 0)) = ∑ r : Fin 5000, x (ix2 (⟨r.val, by omega⟩ : Fin 5120) l) := by
  refine (Fin.sum_univ_add (a := 5000) (b := 120) fun s => x (ix2 s l) * k0_pay4 (F := Ideal) (ix2 s 0)).trans ?_
  rw [Finset.sum_eq_zero (s := (Finset.univ : Finset (Fin 120))), add_zero]
  · refine Finset.sum_congr rfl fun r _ => ?_
    rw [pay4_at, if_pos (show (Fin.castAdd 120 r).val < 5000 from r.isLt), mul_one]
    rfl
  · intro s _
    rw [pay4_at, if_neg (show ¬ (Fin.natAdd 5000 s).val < 5000 from Nat.not_lt.2 (Nat.le_add_right _ _)), mul_zero]

/-- With every node in graph zero, the kernel's prediction head, over the padded operands, gives the reference's ten predictions. -/
theorem pred (w1 : FVec Ideal S128x256 .f32) (b1 : FVec Ideal S256 .f32) (w2 : FVec Ideal S256x128 .f32) (b2 : FVec Ideal S128 .f32)
    (w3 : FVec Ideal S128x10 .f32) (b3 : FVec Ideal S10 .f32) (hb : ∀ i, x2 i = 0#32) (l : Fin 10) :
    k0_pay1 (F := Ideal) (k0_pay2 (concatenate S5120x128 0 [⟨S5000x128, val_main_v28 (F := Ideal) x0 x1 x3 x4 x5⟩, ⟨S120x128, broadcastInDim S120x128 ![] bcast_S_S120x128 (constant (F := Ideal) S_ .f32 0x00000000#32)⟩] concatenates_S5000x128_S120x128_S5120x128_d0)
      (shapeCast S5120x1 (concatenate S5120 0 [⟨S5000, val_main_values (F := Ideal) x0 x1 x3 x4 x5⟩, ⟨S120, broadcastInDim S120 ![] bcast_S_S120 (constant (F := Ideal) S_ .f32 0x00000000#32)⟩] concatenates_S5000_S120_S5120_d0) shapeCasts_S5120_S5120x1))
      k0_pay4 w1 (shapeCast S1x256 b1 shapeCasts_S256_S1x256) w2 (shapeCast S1x128 b2 shapeCasts_S128_S1x128)
      (Host.scatter scatter_S128x128_S1_S128x10_01_n_1_0 (fun _ b => b) (broadcastInDim S128x128 ![] bcast_S_S128x128 (constant (F := Ideal) S_ .f32 0x00000000#32)) (broadcastInDim S1 ![] bcast_S_S1 (constantI S_ 32 0#32)) w3)
      (Host.scatter scatter_S1x128_S2_S10_0_0_01_0 (fun _ b => b) (broadcastInDim S1x128 ![] bcast_S_S1x128 (constant (F := Ideal) S_ .f32 0x00000000#32)) (concatenate S2 0 [⟨S1, broadcastInDim S1 ![] bcast_S_S1 (constantI S_ 32 0#32)⟩, ⟨S1, broadcastInDim S1 ![] bcast_S_S1 (constantI S_ 32 0#32)⟩] concatenates_S1_S1_S2_d0) b3)
      (ix2 0 (⟨l.val, by omega⟩ : Fin 128))
      = val_main_v61 (F := Ideal) x0 x1 x2 x3 x4 x5 w1 b1 w2 b2 w3 b3 (ix2 0 l) := by
  rw [pay1_at, v61_at, count]
  refine congrArg₂ (· + ·) (Finset.sum_congr rfl fun k _ => congrArg₂ (· * ·) ?_ (set45 _ _ word1 _ _ l)) (set50 _ _ word2 _ l)
  have e1 : (fun i : Fin 128 => Ideal.div (∑ s : Fin 5120, k0_pay2 (F := Ideal) (concatenate S5120x128 0 [⟨S5000x128, val_main_v28 (F := Ideal) x0 x1 x3 x4 x5⟩, ⟨S120x128, broadcastInDim S120x128 ![] bcast_S_S120x128 (constant (F := Ideal) S_ .f32 0x00000000#32)⟩] concatenates_S5000x128_S120x128_S5120x128_d0)
      (shapeCast S5120x1 (concatenate S5120 0 [⟨S5000, val_main_values (F := Ideal) x0 x1 x3 x4 x5⟩, ⟨S120, broadcastInDim S120 ![] bcast_S_S120 (constant (F := Ideal) S_ .f32 0x00000000#32)⟩] concatenates_S5000_S120_S5120_d0) shapeCasts_S5120_S5120x1) (ix2 s i) * k0_pay4 (F := Ideal) (ix2 s 0)) ((5000 : ℕ) : EReal))
      = fun i => val_main_v48 (F := Ideal) x0 x1 x2 x3 x4 x5 (ix2 0 i) := funext fun i => by
    rw [total, v48_at x0 x1 x2 x3 x4 x5 hb]
    refine congrArg (Ideal.div · _) (Finset.sum_congr rfl fun r _ => ?_)
    rw [pay2_at]
    exact (congrArg₂ (· * ·) (rows_at _ r i) (col_at _ r)).trans (v31_at x0 x1 x3 x4 x5 r i).symm
  have e2 : (fun k => (shapeCast S1x256 b1 shapeCasts_S256_S1x256) (ix2 0 k)) = fun k => b1 (ix1 k) := funext fun k => row256_at b1 k
  have e3 : (fun k => (shapeCast S1x128 b2 shapeCasts_S128_S1x128) (ix2 0 k)) = fun k => b2 (ix1 k) := funext fun k => row128_at b2 k
  rw [e1, e2, e3]

end Ref

end Cert.Compare

end
-- ==== Proof.Results.lean ====
/- What the whole program holds in its three results once it has run: the region's two result arrays cut by the trailing slices,
   and the selected nodes, which the region leaves alone; each is the reference's result on the same arguments. -/
module

public import proofs.«01_k».proof.Defs
public import proofs.«01_k».proof.Proof.Arrays
public import proofs.«01_k».proof.Proof.Reads
public import proofs.«01_k».proof.Proof.Compare
public import Idealize.ShloMosaic.Lib.Pipeline.ValueKit
public import Idealize.ShloMosaic.Lib.Claim
public import Idealize.ShloMosaic.Lib.StableHlo.RunRead
public import Idealize.ShloMosaic.Lib.Pointwise

@[expose] public section

set_option maxRecDepth 16384

noncomputable section

namespace Cert.KernelIdeal.Results

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The sixteen windows stage sixteen different arrays. -/
theorem arrays_differ : Function.Injective (Pipeline.arrRef spec0) := by decide

/-- The first result is the leading ten entries of the first row of the region's second result array. -/
theorem tail56 (c : Dev nD) : Pipeline.afterTail₀ cfgs (dats m) 0 (V0 m) [hostOps1] c main_v56
    = extractStridedSlice S1x10 ![0, 0] ((dats m 0 c).arrAt 15 cfg0.N) slices_S8x128_S1x10_0_0 := by
  unfold Pipeline.afterTail₀
  simp only [hostOps1, List.flatten_cons, List.flatten_nil, List.append_nil]
  after_reads_simp
  exact congrArg (fun x => extractStridedSlice S1x10 ![0, 0] x slices_S8x128_S1x10_0_0)
    (Pipeline.withArrays_arr spec0 arrays_differ c (V0 m c) (fun w => (dats m 0 c).arrAt w cfg0.N) 15)

/-- The second result is the first column of the leading 5000 rows of the region's first result array. -/
theorem tail57 (c : Dev nD) : Pipeline.afterTail₀ cfgs (dats m) 0 (V0 m) [hostOps1] c main_v57
    = extractStridedSlice S5000x1 ![0, 0] ((dats m 0 c).arrAt 14 cfg0.N) slices_S5120x128_S5000x1_0_0 := by
  unfold Pipeline.afterTail₀
  simp only [hostOps1, List.flatten_cons, List.flatten_nil, List.append_nil]
  after_reads_simp
  exact congrArg (fun x => extractStridedSlice S5000x1 ![0, 0] x slices_S5120x128_S5000x1_0_0)
    (Pipeline.withArrays_arr spec0 arrays_differ c (V0 m c) (fun w => (dats m 0 c).arrAt w cfg0.N) 14)

/-- The selected nodes end as they entered the region. -/
theorem tailIdx (c : Dev nD) : Pipeline.afterTail₀ cfgs (dats m) 0 (V0 m) [hostOps1] c main_indices = V m c main_indices := by
  unfold Pipeline.afterTail₀
  simp only [hostOps1, List.flatten_cons, List.flatten_nil, List.append_nil]
  after_reads_simp
  exact Pipeline.withArrays_of_ne _ c (V0 m c) _ main_indices (by decide)

/-- A row of the cut first column is that row of the region's array. -/
theorem cut57 (X : FVec Ideal S5120x128 .f32) (r : Fin 5000) :
    extractStridedSlice S5000x1 ![0, 0] X slices_S5120x128_S5000x1_0_0 (ix2 r 0) = X (ix2 (⟨r.val, by omega⟩ : Fin 5120) 0) := by
  pointwise

/-- An entry of the cut first row is that entry of the region's array. -/
theorem cut56 (X : FVec Ideal S8x128 .f32) (l : Fin 10) :
    extractStridedSlice S1x10 ![0, 0] X slices_S8x128_S1x10_0_0 (ix2 0 l) = X (ix2 0 (⟨l.val, by omega⟩ : Fin 128)) := by
  pointwise

/-- An array of 5000 rows and one column is settled by its rows. -/
theorem ext57 (X Y : FVec Ideal S5000x1 .f32) (h : ∀ r : Fin 5000, X (ix2 r 0) = Y (ix2 r 0)) : X = Y := by
  funext j
  idx_vars j
  obtain rfl : j1 = 0 := Subsingleton.elim _ _
  exact h j0

/-- An array of one row and ten columns is settled by its entries. -/
theorem ext56 (X Y : FVec Ideal S1x10 .f32) (h : ∀ l : Fin 10, X (ix2 0 l) = Y (ix2 0 l)) : X = Y := by
  funext j
  idx_vars j
  obtain rfl : j0 = 0 := Subsingleton.elim _ _
  exact h j1

/-- The gene scores the program returns are the reference's. -/
theorem gene_result (c : Dev nD) : Pipeline.afterTail₀ cfgs (dats m) 0 (V0 m) [hostOps1] c main_v57
    = Cert.ReferenceIdeal.Read.val_main_v77 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  refine (tail57 m c).trans (ext57 _ _ fun r => ?_)
  rw [cut57, Arrays.final14, Reads.read33, Reads.read24, Reads.read51, Reads.read52, Reads.read36, Reads.read42, V_main_arg12, V_main_arg14]
  exact Cert.Compare.gene _ _ _ _ _ _ _ _ _ _ _ r

/-- With every node in graph zero, the predictions the program returns are the reference's. -/
theorem pred_result (c : Dev nD) (hb : ∀ i, (m ((c.tc : Thread nD τ).loc main_arg2) : IVec Cert.ReferenceIdeal.S10000 32) i = 0#32) :
    Pipeline.afterTail₀ cfgs (dats m) 0 (V0 m) [hostOps1] c main_v56
    = Cert.ReferenceIdeal.Read.val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  refine (tail56 m c).trans (ext56 _ _ fun l => ?_)
  rw [cut56, Arrays.final15, Reads.read33, Reads.read24, Reads.read53, Reads.read54, Reads.read45, Reads.read50, V_main_arg6, V_main_arg8]
  exact Cert.Compare.pred _ _ _ _ _ _ _ _ _ _ _ _ hb l

end Cert.KernelIdeal.Results

end
-- ==== Proof.lean ====
/- The certificate: each program's frame, the idealized kernel, and the equality of the kernel's three results with the
   reference's over the extended reals. The mathematics is in the modules under `Proof/`: `Arrays` (what the region leaves in
   its two result arrays), `Reads` (what it is given), `Heads` (what the two heads compute at an index), `Scatters` (the padded
   weights and the segment sums), `Compare` (the two heads against the reference), `Results` (the program's three results). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init
public import Idealize.ShloMosaic.Lib.Claim
public import proofs.«01_k».proof.Proof.Arrays
public import proofs.«01_k».proof.Proof.Reads
public import proofs.«01_k».proof.Proof.Compare
public import proofs.«01_k».proof.Proof.Results

@[expose] public section

noncomputable section

namespace Cert.Proof

open Idealize.ShloMosaic Idealize.SL.Sem

/-- The side condition of the precondition's predicate: a scalar is broadcast to the 10000 nodes. -/
instance : Cert.Pre_one_graph.Facts := ⟨by decide⟩

/-- Under the precondition every node belongs to graph zero. -/
theorem nodes_zero (m : (ℓ : Loc Cert.KernelIdeal.nD Cert.KernelIdeal.τ Cert.KernelIdeal.sig) → Buf (Elt Ideal) ℓ)
    (h : Cert.Pre_KernelIdeal_one_graph m) (c : Dev Cert.KernelIdeal.nD) (i : Cert.ReferenceIdeal.S10000.Idx) :
    (m ((c.tc : Thread Cert.KernelIdeal.nD Cert.KernelIdeal.τ).loc Cert.KernelIdeal.main_arg2) : IVec Cert.ReferenceIdeal.S10000 32) i = 0#32 := by
  have h1 := congrFun (h c) i
  simp only [Cert.Pre_one_graph.fn] at h1
  change IntOp.cmpi .eq _ (0#32) = 1#1 at h1
  rw [WordCmp.cmpi_eq_eq] at h1
  by_contra hne
  rw [decide_eq_false hne] at h1
  exact absurd h1 (by decide)

/-- The kernel and the reference end with the same predictions, gene scores and selected nodes. -/
theorem algebraic : Cert.algebraic_KernelIdeal_ReferenceIdeal_pre_one_graph := by
  intro m g m' g' hpre hagree
  refine ⟨fun c => Cert.ReferenceIdeal.Read.val_main_v61 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.ReferenceIdeal.Read.val_main_v77 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)),
    fun c => Cert.ReferenceIdeal.Read.val_main_indices (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine θ_run_mono (θ_run_and (Cert.KernelIdeal.Gen.run_main m g) (Cert.KernelIdeal.Gen.unchanged m g)) fun r h c => ⟨?_, ?_, ?_, h.2 c⟩
    · exact ((h.1 c).2 Cert.KernelIdeal.main_v56 (Pipeline.mem_restRefs_of _ (by decide) (by decide))).trans
        (Cert.KernelIdeal.Results.pred_result m c (nodes_zero m hpre c))
    · exact ((h.1 c).2 Cert.KernelIdeal.main_v57 (Pipeline.mem_restRefs_of _ (by decide) (by decide))).trans
        (Cert.KernelIdeal.Results.gene_result m c)
    · exact ((h.1 c).2 Cert.KernelIdeal.main_indices (Pipeline.mem_restRefs_of _ (by decide) (by decide))).trans
        ((Cert.KernelIdeal.Results.tailIdx m c).trans (Cert.KernelIdeal.Reads.readIdx m c))
  · refine θ_run_mono (Cert.ReferenceIdeal.Value.run m' g') fun r h c => ⟨(h c).1.trans ?_, (h c).2.1.trans ?_, (h c).2.2.1.trans ?_, (h c).2.2.2⟩
    · rw [Cert.ReferenceIdeal.Read.val_main_v61_eq]; simp only [hagree c]
    · rw [Cert.ReferenceIdeal.Read.val_main_v77_eq]; simp only [hagree c]
    · refine (Cert.ReferenceIdeal.Read.val_main_indices_eq _ _ _ _ _).trans ?_; simp only [hagree c]

/-- The reference runs, leaves its arguments unchanged and every counter at zero. -/
theorem frame_ref : Cert.quiescent_ReferenceIdeal := fun m g _ =>
  θ_run_mono (Cert.ReferenceIdeal.Value.run m g) fun r h =>
    ⟨fun c => (h c).2.2.2, Idealize.ShloMosaic.sem_eq_zero_of_no_sems (by decide) r.2⟩

/-- Everything the certificate claims. -/
theorem claim : Cert.Claim := ⟨Cert.Kernel.Gen.facts, Cert.KernelIdeal.Gen.facts, Cert.ReferenceIdeal.Gen.facts, inferInstance,
  fun m g _ => Cert.Kernel.Gen.frame m g, fun m g _ => Cert.KernelIdeal.Gen.frame m g, fun m g _ => Cert.KernelIdeal.Gen.frame m g,
  frame_ref, fun m g _ => frame_ref m g trivial, trivial, algebraic⟩

end Cert.Proof

end
